-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S64x2048 : Shape := ⟨2, ![64, 2048]⟩
abbrev S64 : Shape := ⟨1, ![64]⟩
abbrev S1x64 : Shape := ⟨2, ![1, 64]⟩
abbrev S16384x64 : Shape := ⟨2, ![16384, 64]⟩
abbrev S1024x2048 : Shape := ⟨2, ![1024, 2048]⟩
abbrev S1024x64 : Shape := ⟨2, ![1024, 64]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S1x64, .f32⟩
  | .hbm, ⟨4, _⟩ => ⟨S16384x64, .f32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x2048 : Shape := ⟨2, ![16384, 2048]⟩
abbrev S64x2048 : Shape := ⟨2, ![64, 2048]⟩
abbrev S64 : Shape := ⟨1, ![64]⟩
abbrev S2048x64 : Shape := ⟨2, ![2048, 64]⟩
abbrev S16384x64 : Shape := ⟨2, ![16384, 64]⟩
abbrev S1x64 : Shape := ⟨2, ![1, 64]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S2048x64, .f32⟩
  | .hbm, ⟨4, _⟩ => ⟨S16384x64, .f32⟩
  | .hbm, ⟨5, _⟩ => ⟨S1x64, .f32⟩
  | .hbm, ⟨6, _⟩ => ⟨S16384x64, .f32⟩
  | .hbm, ⟨7, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Logits.lean ====
/-
  THE ROUTER'S LOGITS over the extended reals, as mathematics: token `r`'s score for expert `e` is the inner product of
  row `r` of `x` with row `e` of `W`, plus the bias of `e`. Kernel and reference are both shown to compute this function.
-/
module

public import Idealize.ShloMosaic.PureOps.Ideal
public import Idealize.ShloMosaic.Lib.ValueIdxCore

@[expose] public section

noncomputable section

namespace Cert.Router

open Idealize.ShloMosaic Idealize.ShloMosaic.ValueIdx
open scoped BigOperators

/-- The linear layer `x Wᵀ + b` of `n` tokens: at (r, e) the sum over the 2048 features of `x[r, k] · W[e, k]`, plus `b[e]`.
    The number of tokens is a parameter, so that one block of rows and the whole array are instances of it. -/
def logits {n : ℕ} (x : FVec Ideal ⟨2, ![n, 2048]⟩ .f32) (W : FVec Ideal ⟨2, ![64, 2048]⟩ .f32) (b : Fin 64 → Ideal .f32) :
    FVec Ideal ⟨2, ![n, 64]⟩ .f32 :=
  fun i => (∑ k : Fin 2048, x (ix2 (i 0) k) * W (ix2 (i 1) k)) + b (i 1)

/-- The logits at a row and an expert given by their numbers. -/
theorem logits_apply {n : ℕ} (x : FVec Ideal ⟨2, ![n, 2048]⟩ .f32) (W : FVec Ideal ⟨2, ![64, 2048]⟩ .f32)
    (b : Fin 64 → Ideal .f32) (r : Fin n) (e : Fin 64) :
    logits x W b (ix2 r e) = (∑ k : Fin 2048, x (ix2 r k) * W (ix2 e k)) + b e := rfl

/-- A token's logits depend on that token's row only: where row `r` of `x` is row `r'` of `x'`, the two score alike
    under the same weights and bias. What lets the rows be cut into blocks. -/
theorem logits_row {n n' : ℕ} {x : FVec Ideal ⟨2, ![n, 2048]⟩ .f32} {x' : FVec Ideal ⟨2, ![n', 2048]⟩ .f32}
    (W : FVec Ideal ⟨2, ![64, 2048]⟩ .f32) (b : Fin 64 → Ideal .f32) {r : Fin n} {r' : Fin n'}
    (h : ∀ k, x (ix2 r k) = x' (ix2 r' k)) (e : Fin 64) :
    logits x W b (ix2 r e) = logits x' W b (ix2 r' e) := by
  simp only [logits_apply, h]

end Cert.Router

end
-- ==== Proof.Block.lean ====
/-
  WHAT ONE GRID POINT COMPUTES: from a block of 1024 token rows, the whole weight matrix and the bias as one row, the body's
  stored value is the linear layer of those rows. Over the extended reals the casts to bf16 are the identity and the matrix
  unit's product, accumulated into zeros, is the sum of the products.
-/
module

public import proofs.«01_k».proof.Proof.Logits
public import proofs.«01_k».proof.Proof.Gen.KernelIdeal.Skeleton
public import Idealize.ShloMosaic.Lib.MatmulPlain
public import Idealize.ShloMosaic.Lib.ValueLayout
public import Idealize.ShloMosaic.Lib.Pipeline.Value

@[expose] public section

noncomputable section

namespace Cert.Router

open Idealize.ShloMosaic Idealize.ShloMosaic.ValueIdx
open Cert.KernelIdeal Cert.KernelIdeal.Gen
open scoped BigOperators

/-- The kernel's product contracts the last axis of both operands: rows of `x` against rows of `W`. -/
theorem kernel_dims : dot_S1024x2048_S64x2048_S1024x64_1_1_0_0_n_n = DotDims.transposedRhs 1024 2048 64 := rfl

/-- The bias row laid under every token: at (r, e) it is the row's entry `e`. -/
theorem bias_rows (v : FVec Ideal S1x64 .f32) (r : Fin 1024) (e : Fin 64) :
    broadcastTo S1024x64 (shapeCast S1x64 v shapeCasts_S1x64_S1x64) broadcasts_S1x64_S1024x64 (ix2 r e) = v (ix2 0 e) := by
  refine (broadcastTo_apply _ _ (ix2 r e) (ix2 0 e) fun a => ?_).trans (congrFun (shapeCast_self v _) _)
  match a with
  | ⟨0, _⟩ => rfl
  | ⟨1, _⟩ => rfl

/-- The body's stored value is the linear layer of the block's rows. -/
theorem block_value (x : FVec Ideal S1024x2048 .f32) (W : FVec Ideal S64x2048 .f32) (v : FVec Ideal S1x64 .f32) :
    k0_pay1 x W v = logits x W fun e => v (ix2 0 e) := by
  funext j
  obtain ⟨r, e, rfl⟩ : ∃ (r : Fin 1024) (e : Fin 64), j = ix2 r e := ⟨j 0, j 1, eq_ix2 j⟩
  rw [logits_apply]
  show FloatOps.matmul dot_S1024x2048_S64x2048_S1024x64_1_1_0_0_n_n none x W (constant S1024x64 .f32 0x00000000#32) (ix2 r e)
      + broadcastTo S1024x64 (shapeCast S1x64 v shapeCasts_S1x64_S1x64) broadcasts_S1x64_S1024x64 (ix2 r e) = _
  rw [bias_rows, kernel_dims, Ideal.matmul_transposedRhs_apply]
  congr 1
  show Ideal.ofBits .f32 0x00000000#32 + _ = _
  rw [Ideal.ofBits_zero_f32, zero_add]

end Cert.Router

end
-- ==== Proof.Array.lean ====
/-
  WHAT THE KERNEL'S RESULT ARRAY HOLDS AFTER THE RUN: the 16 grid points write disjoint blocks of 1024 rows, each the linear
  layer of its own rows, and together they cover the array; so it is the linear layer of all 16384 tokens.
-/
module

public import proofs.«01_k».proof.Proof.Block
public import proofs.«01_k».proof.Proof.Gen.KernelIdeal.Value
public import Idealize.ShloMosaic.Lib.Pipeline.ValueKit
public import Idealize.ShloMosaic.Lib.StableHlo.Run

@[expose] public section

noncomputable section

namespace Cert.Router

open Idealize.ShloMosaic hiding ix1 ix2 eq_ix2
open Idealize.ShloMosaic.TcCoe Idealize.SL.Sem Idealize.ShloMosaic.ValueIdx
open Cert.KernelIdeal Cert.KernelIdeal.Gen
open scoped BigOperators

variable (m : (ℓ : Loc nD τ sig) → Buf (Elt Ideal) ℓ) (ρ : Dev nD → PrngReg)

/-- The two-zero offset of a whole-block access. -/
theorem no_offset : (![0, 0] : Fin 2 → ℕ) = fun _ => 0 := funext fun a => by fin_cases a <;> rfl

/-- What the body leaves in the output's buffer is the linear layer of the blocks that it loads whole. -/
theorem left_value (x : FVec Ideal S1024x2048 .f32) (W : FVec Ideal S64x2048 .f32) (v : FVec Ideal S1x64 .f32) :
    out0_3 (F := Ideal) x W v = logits x W fun e => v (ix2 0 e) := by
  unfold out0_3
  rw [View.canon_unit_zero no_offset, View.ld_unit_zero no_offset, View.ld_unit_zero no_offset, View.ld_unit_zero no_offset]
  exact block_value x W v

/-- The bias as the kernel's call finds it: the argument, reshaped on the host to one row. -/
theorem bias_row (c : Dev nD) (e : Fin 64) :
    V m c main_call0_v0 (ix2 0 e) = m ((c : Thread nD τ).loc main_arg2) (ix1 e) := by
  have h : V m c main_call0_v0 = shapeCast S1x64 (m ((c : Thread nD τ).loc main_arg2)) shapeCasts_S64_S1x64 := by
    unfold_abbrev_sides
    after_results
    rfl
  rw [h]
  exact shapeCast_a_1a_apply _ _ 0 e

/-- The block indices of the four windows at point `t`: the tokens' and the result's rows move with `t`, the weights and the
    bias stay. -/
theorem block_indices : ∀ t : Fin grid0.N, (win0_0.index t = ![t.val, 0] ∧ win0_1.index t = ![0, 0]) ∧ win0_2.index t = ![0, 0]
    ∧ win0_3.index t = ![t.val, 0] := by decide +kernel

/-- Row `r` of point `t`'s block, as a row of the whole array. -/
def row (t : Fin cfg0.N) (r : Fin 1024) : Fin 16384 :=
  ⟨t.val * 1024 + r.val, by have h : t.val < 16 := t.isLt.trans_eq N_0; omega⟩

/-- Point `t`'s token block holds the rows `1024 t` to `1024 t + 1023` of `x`. -/
theorem tokens_block (c : Dev nD) (t : Fin cfg0.N) (r : Fin 1024) (k : Fin 2048) :
    (iblk m c 0 t : FVec Ideal S1024x2048 .f32) (ix2 r k) = m ((c : Thread nD τ).loc main_arg0) (ix2 (row t r) k) := by
  rw [← V_main_arg0 m c]
  show V m c main_arg0 (((cfg0.win 0).blk t).view.emb (ix2 r k)) = _
  congr 1
  funext a
  apply Fin.ext
  match a with
  | ⟨0, _⟩ =>
    show win0_0.index t 0 * 1024 + 1 * r.val = t.val * 1024 + r.val
    rw [(block_indices t).1.1]; simp
  | ⟨1, _⟩ =>
    show win0_0.index t 1 * 2048 + 1 * k.val = k.val
    rw [(block_indices t).1.1]; simp

/-- Every point's weight block is the whole weight matrix. -/
theorem weights_block (c : Dev nD) (t : Fin cfg0.N) :
    (iblk m c 1 t : FVec Ideal S64x2048 .f32) = m ((c : Thread nD τ).loc main_arg1) := by
  rw [← V_main_arg1 m c]
  funext j
  show V m c main_arg1 (((cfg0.win 1).blk t).view.emb j) = _
  congr 1
  funext a
  apply Fin.ext
  match a with
  | ⟨0, _⟩ =>
    show win0_1.index t 0 * 64 + 1 * (j 0).val = (j 0).val
    rw [(block_indices t).1.2]; simp
  | ⟨1, _⟩ =>
    show win0_1.index t 1 * 2048 + 1 * (j 1).val = (j 1).val
    rw [(block_indices t).1.2]; simp

/-- Every point's bias block is the bias. -/
theorem bias_block (c : Dev nD) (t : Fin cfg0.N) (e : Fin 64) :
    (iblk m c 2 t : FVec Ideal S1x64 .f32) (ix2 0 e) = m ((c : Thread nD τ).loc main_arg2) (ix1 e) := by
  rw [← bias_row m c e]
  show V m c main_call0_v0 (((cfg0.win 2).blk t).view.emb (ix2 0 e)) = _
  congr 1
  funext a
  apply Fin.ext
  match a with
  | ⟨0, _⟩ =>
    show win0_2.index t 0 * 1 + 1 * 0 = 0
    rw [(block_indices t).2.1]; simp
  | ⟨1, _⟩ =>
    show win0_2.index t 1 * 64 + 1 * e.val = e.val
    rw [(block_indices t).2.1]; simp

/-- Where point `t`'s block places its entry (r, e) in the result array. -/
theorem result_place (t : Fin cfg0.N) (r : Fin 1024) (e : Fin 64) :
    ((cfg0.win 3).blk t).view.emb (ix2 r e) = (ix2 (row t r) e : S16384x64.Idx) := by
  funext a
  apply Fin.ext
  match a with
  | ⟨0, _⟩ =>
    show win0_3.index t 0 * 1024 + 1 * r.val = t.val * 1024 + r.val
    rw [(block_indices t).2.2]; simp
  | ⟨1, _⟩ =>
    show win0_3.index t 1 * 64 + 1 * e.val = e.val
    rw [(block_indices t).2.2]; simp

/-- The linear layer of device `c`'s arguments: what its result array is shown to hold. -/
abbrev target (c : Dev nD) : Buf (Elt Ideal) ((c : Thread nD τ).loc main_v0) :=
  logits (m ((c : Thread nD τ).loc main_arg0)) (m ((c : Thread nD τ).loc main_arg1))
    fun e => m ((c : Thread nD τ).loc main_arg2) (ix1 e)

/-- Point `t` leaves at (r, e) of its block the logit of its row `r` for expert `e`. -/
theorem point_value (c : Dev nD) (t : Fin cfg0.N) (r : Fin 1024) (e : Fin 64) :
    out0_3 (iblk m c 0 t) (iblk m c 1 t) (iblk m c 2 t) (ix2 r e) = target m c (ix2 (row t r) e) := by
  rw [left_value, weights_block, funext (bias_block m c t)]
  exact logits_row _ _ (tokens_block m c t r) e

/-- The blocks that the points write back cover the result array. -/
theorem rows_covered : win0_3.Covers := by decide +kernel

/-- After the run the result array is the linear layer of all the tokens. -/
theorem result_array (c : Dev nD) : (dats m 0 c).arrAt 3 cfg0.N = target m c := by
  refine (dats m 0 c).arrAt_eq_of_covers 3 (target m c) rows_covered fun t _ y => ?_
  blk_simp
  rw [after0_3]
  obtain ⟨r, e, rfl⟩ : ∃ (r : Fin 1024) (e : Fin 64), y = ix2 r e := ⟨y 0, y 1, eq_ix2 y⟩
  exact (point_value m c t r e).trans (congrArg (target m c) (result_place t r e).symm)

/-- The kernel's run: every execution ends with the result array at the linear layer of the arguments, which it leaves as
    they were. -/
theorem kernel_run : θ_run defs (onTc (τ := τ) (main (F := Ideal))) ⟨m, fun _ => 0, ρ⟩ fun r => ∀ c : Dev nD,
      r.2.mem ((c : Thread nD τ).loc main_v0) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (result_array m c), (h c).2⟩) (Value.run_blocks m ρ)

end Cert.Router

end
-- ==== Proof.Reference.lean ====
/-
  WHAT THE REFERENCE COMPUTES: `x @ W.T + b` on the host — the transpose, the product, the bias broadcast to every row and
  the sum — is the linear layer of all 16384 tokens.
-/
module

public import proofs.«01_k».proof.Proof.Logits
public import proofs.«01_k».proof.Proof.Gen.ReferenceIdeal.Run
public import Idealize.ShloMosaic.Lib.StackMember
public import Idealize.ShloMosaic.Lib.KernelVsHost
public import Idealize.ShloMosaic.Lib.ValueLayout

@[expose] public section

noncomputable section

namespace Cert.Router

open Idealize.ShloMosaic Idealize.ShloMosaic.ValueIdx
open Cert.ReferenceIdeal Cert.ReferenceIdeal.Gen
open scoped BigOperators

/-- The reference's product is the plain one: the rows of `x` against the columns of the transposed weights. -/
theorem reference_dims : dot_S16384x2048_S2048x64_S16384x64_1_0_0_1_n_n = DotDims.plain 16384 2048 64 := rfl

/-- The bias broadcast to one row, and that row to all tokens, is at (r, e) the bias of `e`. -/
theorem bias_everywhere (b : FVec Ideal S64 .f32) (r : Fin 16384) (e : Fin 64) :
    broadcastInDim S16384x64 ![0, 1] bcast_S1x64_S16384x64_0_1 (broadcastInDim S1x64 ![1] bcast_S64_S1x64_1 b) (ix2 r e)
      = b (ix1 e) := by
  rw [broadcastInDim_oneRow_apply]
  refine broadcastInDim_apply _ _ b _ (ix1 e) fun a => ?_
  match a with
  | ⟨0, _⟩ => rfl

/-- The reference's operations, composed, are the linear layer. -/
theorem reference_value (x : FVec Ideal S16384x2048 .f32) (W : FVec Ideal S64x2048 .f32) (b : FVec Ideal S64 .f32) :
    addf (Host.dotGeneral dot_S16384x2048_S2048x64_S16384x64_1_0_0_1_n_n none x
        (transpose S2048x64 [1, 0] W transposes_S64x2048_S2048x64_1_0))
      (broadcastInDim S16384x64 ![0, 1] bcast_S1x64_S16384x64_0_1 (broadcastInDim S1x64 ![1] bcast_S64_S1x64_1 b))
      = logits x W fun e => b (ix1 e) := by
  funext j
  obtain ⟨r, e, rfl⟩ : ∃ (r : Fin 16384) (e : Fin 64), j = ix2 r e := ⟨j 0, j 1, eq_ix2 j⟩
  rw [logits_apply]
  show Host.dotGeneral _ none x _ (ix2 r e) + broadcastInDim _ _ _ _ (ix2 r e) = _
  rw [bias_everywhere, reference_dims, StackMember.dotGeneral_plain_apply]
  exact congrArg (· + b (ix1 e)) (Finset.sum_congr rfl fun k _ => congrArg (x (ix2 r k) * ·) (transpose_ix2_apply W _ k e))

end Cert.Router

end
-- ==== Proof.lean ====
/-
  The certificate's proof: the frames of the three programs, the preservation, and the equality over the extended reals of
  the kernel's result array and the reference's. The mathematics is in the modules imported here: the linear layer
  (Logits), one block (Block), the kernel's array (Array), the reference (Reference).
-/
module

public import proofs.«01_k».proof.Defs
public import proofs.«01_k».proof.Proof.Gen.Kernel.Frame
public import proofs.«01_k».proof.Proof.Array
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem

/-- The kernel ends without fault, its arguments unchanged and its counters at zero. -/
theorem frame_kernel : Cert.quiescent_Kernel := fun m ρ _ => Cert.Kernel.Gen.frame m ρ

/-- So does its idealization. -/
theorem frame_kernel_ideal : Cert.quiescent_KernelIdeal := fun m ρ _ => Cert.KernelIdeal.Gen.frame m ρ

/-- And the reference, which declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals, on the same arguments, kernel and reference leave the same logits. -/
theorem same_logits : Cert.algebraic_KernelIdeal_ReferenceIdeal := by
  intro m ρ m' ρ' _ hagree
  refine ⟨fun c => Cert.Router.target m c, Cert.Router.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.Router.reference_value _ _ _

/-- The whole certificate. -/
theorem claim : Cert.Claim :=
  ⟨Cert.Kernel.Gen.facts, Cert.KernelIdeal.Gen.facts, Cert.ReferenceIdeal.Gen.facts,
    frame_kernel, frame_kernel_ideal, frame_reference, trivial, same_logits⟩

end Cert.Proof

end
